-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x22743x4 : Shape := ⟨3, ![32, 22743, 4]⟩
abbrev S32x50x4 : Shape := ⟨3, ![32, 50, 4]⟩
abbrev S32x22743x1 : Shape := ⟨3, ![32, 22743, 1]⟩
abbrev S32x22743x2 : Shape := ⟨3, ![32, 22743, 2]⟩
abbrev S32x22743x80 : Shape := ⟨3, ![32, 22743, 80]⟩
abbrev S32x4x22743 : Shape := ⟨3, ![32, 4, 22743]⟩
abbrev S32x4x50 : Shape := ⟨3, ![32, 4, 50]⟩
abbrev S32x1x22743 : Shape := ⟨3, ![32, 1, 22743]⟩
abbrev S32x2x22743 : Shape := ⟨3, ![32, 2, 22743]⟩
abbrev S32x80x22743 : Shape := ⟨3, ![32, 80, 22743]⟩
abbrev S1x4x22784 : Shape := ⟨3, ![1, 4, 22784]⟩
abbrev S1x4x50 : Shape := ⟨3, ![1, 4, 50]⟩
abbrev S1x1x22784 : Shape := ⟨3, ![1, 1, 22784]⟩
abbrev S1x2x22784 : Shape := ⟨3, ![1, 2, 22784]⟩
abbrev S1x80x22784 : Shape := ⟨3, ![1, 80, 22784]⟩
abbrev S4x22784 : Shape := ⟨2, ![4, 22784]⟩
abbrev S1x22784 : Shape := ⟨2, ![1, 22784]⟩
abbrev S4x50 : Shape := ⟨2, ![4, 50]⟩
abbrev S1x50 : Shape := ⟨2, ![1, 50]⟩
abbrev S50x1 : Shape := ⟨2, ![50, 1]⟩
abbrev S50x22784 : Shape := ⟨2, ![50, 22784]⟩
abbrev S22784 : Shape := ⟨1, ![22784]⟩
abbrev S2x22784 : Shape := ⟨2, ![2, 22784]⟩
abbrev S80x22784 : Shape := ⟨2, ![80, 22784]⟩

abbrev nBuf : Space → Nat
  | .hbm => 26
  | .vmem => 26
  | .smem => 0
  | _ => 0

abbrev bufTy : (tb : Table) → Fin (tcTables nBuf tb) → BufTy
  | .hbm, ⟨0, _⟩ => ⟨S32x22743x4, .f32⟩
  | .hbm, ⟨1, _⟩ => ⟨S32x50x4, .f32⟩
  | .hbm, ⟨2, _⟩ => ⟨S32x22743x1, .f32⟩
  | .hbm, ⟨3, _⟩ => ⟨S32x22743x2, .f32⟩
  | .hbm, ⟨4, _⟩ => ⟨S32x22743x2, .f32⟩
  | .hbm, ⟨5, _⟩ => ⟨S32x22743x2, .f32⟩
  | .hbm, ⟨6, _⟩ => ⟨S32x22743x80, .f32⟩
  | .hbm, ⟨7, _⟩ => ⟨S32x4x22743, .f32⟩
  | .hbm, ⟨8, _⟩ => ⟨S32x4x50, .f32⟩
  | .hbm, ⟨9, _⟩ => ⟨S32x1x22743, .f32⟩
  | .hbm, ⟨10, _⟩ => ⟨S32x2x22743, .f32⟩
  | .hbm, ⟨11, _⟩ => ⟨S32x2x22743, .f32⟩
  | .hbm, ⟨12, _⟩ => ⟨S32x2x22743, .f32⟩
  | .hbm, ⟨13, _⟩ => ⟨S32x80x22743, .f32⟩
  | .hbm, ⟨14, _⟩ => ⟨S32x1x22743, .f32⟩
  | .hbm, ⟨15, _⟩ => ⟨S32x2x22743, .f32⟩
  | .hbm, ⟨16, _⟩ => ⟨S32x2x22743, .f32⟩
  | .hbm, ⟨17, _⟩ => ⟨S32x2x22743, .f32⟩
  | .hbm, ⟨18, _⟩ => ⟨S32x80x22743, .f32⟩
  | .hbm, ⟨19, _⟩ => ⟨S32x80x22743, .f32⟩
  | .hbm, ⟨20, _⟩ => ⟨S32x22743x1, .f32⟩
  | .hbm, ⟨21, _⟩ => ⟨S32x22743x2, .f32⟩
  | .hbm, ⟨22, _⟩ => ⟨S32x22743x2, .f32⟩
  | .hbm, ⟨23, _⟩ => ⟨S32x22743x2, .f32⟩
  | .hbm, ⟨24, _⟩ => ⟨S32x22743x80, .f32⟩
  | .hbm, ⟨25, _⟩ => ⟨S32x22743x80, .f32⟩
  | .local _ .vmem, ⟨0, _⟩ => ⟨S1x4x22784, .f32⟩
  | .local _ .vmem, ⟨1, _⟩ => ⟨S1x4x22784, .f32⟩
  | .local _ .vmem, ⟨2, _⟩ => ⟨S1x4x50, .f32⟩
  | .local _ .vmem, ⟨3, _⟩ => ⟨S1x4x50, .f32⟩
  | .local _ .vmem, ⟨4, _⟩ => ⟨S1x1x22784, .f32⟩
  | .local _ .vmem, ⟨5, _⟩ => ⟨S1x1x22784, .f32⟩
  | .local _ .vmem, ⟨6, _⟩ => ⟨S1x2x22784, .f32⟩
  | .local _ .vmem, ⟨7, _⟩ => ⟨S1x2x22784, .f32⟩
  | .local _ .vmem, ⟨8, _⟩ => ⟨S1x2x22784, .f32⟩
  | .local _ .vmem, ⟨9, _⟩ => ⟨S1x2x22784, .f32⟩
  | .local _ .vmem, ⟨10, _⟩ => ⟨S1x2x22784, .f32⟩
  | .local _ .vmem, ⟨11, _⟩ => ⟨S1x2x22784, .f32⟩
  | .local _ .vmem, ⟨12, _⟩ => ⟨S1x80x22784, .f32⟩
  | .local _ .vmem, ⟨13, _⟩ => ⟨S1x80x22784, .f32⟩
  | .local _ .vmem, ⟨14, _⟩ => ⟨S1x1x22784, .f32⟩
  | .local _ .vmem, ⟨15, _⟩ => ⟨S1x1x22784, .f32⟩
  | .local _ .vmem, ⟨16, _⟩ => ⟨S1x2x22784, .f32⟩
  | .local _ .vmem, ⟨17, _⟩ => ⟨S1x2x22784, .f32⟩
  | .local _ .vmem, ⟨18, _⟩ => ⟨S1x2x22784, .f32⟩
  | .local _ .vmem, ⟨19, _⟩ => ⟨S1x2x22784, .f32⟩
  | .local _ .vmem, ⟨20, _⟩ => ⟨S1x2x22784, .f32⟩
  | .local _ .vmem, ⟨21, _⟩ => ⟨S1x2x22784, .f32⟩
  | .local _ .vmem, ⟨22, _⟩ => ⟨S1x80x22784, .f32⟩
  | .local _ .vmem, ⟨23, _⟩ => ⟨S1x80x22784, .f32⟩
  | .local _ .vmem, ⟨24, _⟩ => ⟨S1x80x22784, .f32⟩
  | .local _ .vmem, ⟨25, _⟩ => ⟨S1x80x22784, .f32⟩
  | _, _ => ⟨S32x22743x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x22784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x22784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x22784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x22784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x22784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x22784 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x22784 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x22784 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x22784 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x22784 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x80x22784 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x80x22784 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S32x22743x4 : Shape := ⟨3, ![32, 22743, 4]⟩
abbrev S32x50x4 : Shape := ⟨3, ![32, 50, 4]⟩
abbrev S32x22743x1 : Shape := ⟨3, ![32, 22743, 1]⟩
abbrev S32x22743x2 : Shape := ⟨3, ![32, 22743, 2]⟩
abbrev S32x22743x80 : Shape := ⟨3, ![32, 22743, 80]⟩
abbrev S32x22743x1x2 : Shape := ⟨4, ![32, 22743, 1, 2]⟩
abbrev S32x50x2 : Shape := ⟨3, ![32, 50, 2]⟩
abbrev S32x1x50x2 : Shape := ⟨4, ![32, 1, 50, 2]⟩
abbrev S32x22743x50x2 : Shape := ⟨4, ![32, 22743, 50, 2]⟩
abbrev S_ : Shape := ⟨0, ![]⟩
abbrev S32x22743x50x1 : Shape := ⟨4, ![32, 22743, 50, 1]⟩
abbrev S32x22743x50 : Shape := ⟨3, ![32, 22743, 50]⟩
abbrev S32x22743 : Shape := ⟨2, ![32, 22743]⟩
abbrev S32x50x1 : Shape := ⟨3, ![32, 50, 1]⟩
abbrev S32x50 : Shape := ⟨2, ![32, 50]⟩
abbrev S32x1x50 : Shape := ⟨3, ![32, 1, 50]⟩

abbrev nBuf : Space → Nat
  | .hbm => 103
  | .vmem => 0
  | .smem => 0
  | _ => 0

abbrev bufTy : (tb : Table) → Fin (tcTables nBuf tb) → BufTy
  | .hbm, ⟨0, _⟩ => ⟨S32x22743x4, .f32⟩
  | .hbm, ⟨1, _⟩ => ⟨S32x50x4, .f32⟩
  | .hbm, ⟨2, _⟩ => ⟨S32x22743x1, .f32⟩
  | .hbm, ⟨3, _⟩ => ⟨S32x22743x2, .f32⟩
  | .hbm, ⟨4, _⟩ => ⟨S32x22743x2, .f32⟩
  | .hbm, ⟨5, _⟩ => ⟨S32x22743x2, .f32⟩
  | .hbm, ⟨6, _⟩ => ⟨S32x22743x80, .f32⟩
  | .hbm, ⟨7, _⟩ => ⟨S32x22743x2, .f32⟩
  | .hbm, ⟨8, _⟩ => ⟨S32x22743x1x2, .f32⟩
  | .hbm, ⟨9, _⟩ => ⟨S32x50x2, .f32⟩
  | .hbm, ⟨10, _⟩ => ⟨S32x1x50x2, .f32⟩
  | .hbm, ⟨11, _⟩ => ⟨S32x22743x50x2, .f32⟩
  | .hbm, ⟨12, _⟩ => ⟨S32x22743x50x2, .f32⟩
  | .hbm, ⟨13, _⟩ => ⟨S32x22743x50x2, .f32⟩
  | .hbm, ⟨14, _⟩ => ⟨S32x22743x2, .f32⟩
  | .hbm, ⟨15, _⟩ => ⟨S32x22743x1x2, .f32⟩
  | .hbm, ⟨16, _⟩ => ⟨S32x50x2, .f32⟩
  | .hbm, ⟨17, _⟩ => ⟨S32x1x50x2, .f32⟩
  | .hbm, ⟨18, _⟩ => ⟨S32x22743x50x2, .f32⟩
  | .hbm, ⟨19, _⟩ => ⟨S32x22743x50x2, .f32⟩
  | .hbm, ⟨20, _⟩ => ⟨S32x22743x50x2, .f32⟩
  | .hbm, ⟨21, _⟩ => ⟨S32x22743x50x2, .f32⟩
  | .hbm, ⟨22, _⟩ => ⟨S_, .f32⟩
  | .hbm, ⟨23, _⟩ => ⟨S_, .f32⟩
  | .hbm, ⟨24, _⟩ => ⟨S32x22743x50x2, .f32⟩
  | .hbm, ⟨25, _⟩ => ⟨S32x22743x50x2, .f32⟩
  | .hbm, ⟨26, _⟩ => ⟨S32x22743x50x1, .f32⟩
  | .hbm, ⟨27, _⟩ => ⟨S32x22743x50, .f32⟩
  | .hbm, ⟨28, _⟩ => ⟨S32x22743x50x1, .f32⟩
  | .hbm, ⟨29, _⟩ => ⟨S32x22743x50, .f32⟩
  | .hbm, ⟨30, _⟩ => ⟨S32x22743x50, .f32⟩
  | .hbm, ⟨31, _⟩ => ⟨S32x22743x1, .f32⟩
  | .hbm, ⟨32, _⟩ => ⟨S32x22743, .f32⟩
  | .hbm, ⟨33, _⟩ => ⟨S32x22743x1, .f32⟩
  | .hbm, ⟨34, _⟩ => ⟨S32x22743, .f32⟩
  | .hbm, ⟨35, _⟩ => ⟨S32x22743, .f32⟩
  | .hbm, ⟨36, _⟩ => ⟨S32x22743x1, .f32⟩
  | .hbm, ⟨37, _⟩ => ⟨S32x22743, .f32⟩
  | .hbm, ⟨38, _⟩ => ⟨S32x22743x1, .f32⟩
  | .hbm, ⟨39, _⟩ => ⟨S32x22743, .f32⟩
  | .hbm, ⟨40, _⟩ => ⟨S32x22743, .f32⟩
  | .hbm, ⟨41, _⟩ => ⟨S32x22743, .f32⟩
  | .hbm, ⟨42, _⟩ => ⟨S32x50x1, .f32⟩
  | .hbm, ⟨43, _⟩ => ⟨S32x50, .f32⟩
  | .hbm, ⟨44, _⟩ => ⟨S32x50x1, .f32⟩
  | .hbm, ⟨45, _⟩ => ⟨S32x50, .f32⟩
  | .hbm, ⟨46, _⟩ => ⟨S32x50, .f32⟩
  | .hbm, ⟨47, _⟩ => ⟨S32x50x1, .f32⟩
  | .hbm, ⟨48, _⟩ => ⟨S32x50, .f32⟩
  | .hbm, ⟨49, _⟩ => ⟨S32x50x1, .f32⟩
  | .hbm, ⟨50, _⟩ => ⟨S32x50, .f32⟩
  | .hbm, ⟨51, _⟩ => ⟨S32x50, .f32⟩
  | .hbm, ⟨52, _⟩ => ⟨S32x50, .f32⟩
  | .hbm, ⟨53, _⟩ => ⟨S32x22743x1, .f32⟩
  | .hbm, ⟨54, _⟩ => ⟨S32x1x50, .f32⟩
  | .hbm, ⟨55, _⟩ => ⟨S32x22743x50, .f32⟩
  | .hbm, ⟨56, _⟩ => ⟨S32x22743x50, .f32⟩
  | .hbm, ⟨57, _⟩ => ⟨S32x22743x50, .f32⟩
  | .hbm, ⟨58, _⟩ => ⟨S32x22743x50, .f32⟩
  | .hbm, ⟨59, _⟩ => ⟨S_, .f32⟩
  | .hbm, ⟨60, _⟩ => ⟨S32x22743x50, .f32⟩
  | .hbm, ⟨61, _⟩ => ⟨S32x22743x50, .f32⟩
  | .hbm, ⟨62, _⟩ => ⟨S32x22743x50, .f32⟩
  | .hbm, ⟨63, _⟩ => ⟨S_, .f32⟩
  | .hbm, ⟨64, _⟩ => ⟨S32x22743, .f32⟩
  | .hbm, ⟨65, _⟩ => ⟨S32x22743x1, .f32⟩
  | .hbm, ⟨66, _⟩ => ⟨S_, .f32⟩
  | .hbm, ⟨67, _⟩ => ⟨S32x22743x1, .f32⟩
  | .hbm, ⟨68, _⟩ => ⟨S32x22743x1, .i1⟩
  | .hbm, ⟨69, _⟩ => ⟨S32x22743x1, .f32⟩
  | .hbm, ⟨70, _⟩ => ⟨S_, .f32⟩
  | .hbm, ⟨71, _⟩ => ⟨S32x22743x1, .f32⟩
  | .hbm, ⟨72, _⟩ => ⟨S32x22743x1, .f32⟩
  | .hbm, ⟨73, _⟩ => ⟨S_, .f32⟩
  | .hbm, ⟨74, _⟩ => ⟨S32x22743x1, .f32⟩
  | .hbm, ⟨75, _⟩ => ⟨S32x22743x1, .i1⟩
  | .hbm, ⟨76, _⟩ => ⟨S32x22743x1, .f32⟩
  | .hbm, ⟨77, _⟩ => ⟨S_, .f32⟩
  | .hbm, ⟨78, _⟩ => ⟨S_, .f32⟩
  | .hbm, ⟨79, _⟩ => ⟨S32x22743x2, .i1⟩
  | .hbm, ⟨80, _⟩ => ⟨S32x22743x2, .f32⟩
  | .hbm, ⟨81, _⟩ => ⟨S32x22743x2, .f32⟩
  | .hbm, ⟨82, _⟩ => ⟨S_, .f32⟩
  | .hbm, ⟨83, _⟩ => ⟨S_, .f32⟩
  | .hbm, ⟨84, _⟩ => ⟨S32x22743x2, .i1⟩
  | .hbm, ⟨85, _⟩ => ⟨S32x22743x2, .f32⟩
  | .hbm, ⟨86, _⟩ => ⟨S32x22743x2, .f32⟩
  | .hbm, ⟨87, _⟩ => ⟨S_, .f32⟩
  | .hbm, ⟨88, _⟩ => ⟨S_, .f32⟩
  | .hbm, ⟨89, _⟩ => ⟨S32x22743x2, .i1⟩
  | .hbm, ⟨90, _⟩ => ⟨S32x22743x2, .f32⟩
  | .hbm, ⟨91, _⟩ => ⟨S32x22743x2, .f32⟩
  | .hbm, ⟨92, _⟩ => ⟨S_, .f32⟩
  | .hbm, ⟨93, _⟩ => ⟨S_, .f32⟩
  | .hbm, ⟨94, _⟩ => ⟨S32x22743x80, .i1⟩
  | .hbm, ⟨95, _⟩ => ⟨S32x22743x80, .f32⟩
  | .hbm, ⟨96, _⟩ => ⟨S32x22743x80, .f32⟩
  | .hbm, ⟨97, _⟩ => ⟨S_, .f32⟩
  | .hbm, ⟨98, _⟩ => ⟨S32x22743x80, .f32⟩
  | .hbm, ⟨99, _⟩ => ⟨S32x22743x80, .i1⟩
  | .hbm, ⟨100, _⟩ => ⟨S32x22743x80, .i1⟩
  | .hbm, ⟨101, _⟩ => ⟨S32x22743x80, .i1⟩
  | .hbm, ⟨102, _⟩ => ⟨S32x22743x80, .f32⟩
  | _, _ => ⟨S32x22743x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_1 : Ref sig .tc := ⟨.hbm, 63, rfl⟩
abbrev main_v52 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v62 : Ref sig .tc := ⟨.hbm, 81, rfl⟩
abbrev main_cst_6 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v63 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v64 : Ref sig .tc := ⟨.hbm, 91, rfl⟩
abbrev main_cst_8 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proof.Body.lean ====
/-
  The kernel body, run on whole staging buffers: seven inputs are read and left as they were, six results are
  stored whole. The statement holds for any float values and names each result by the payload the printed
  program stores, so the frame and the value proofs share it.
-/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Merge

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The offsets of every access of the body are zero. -/
theorem offsets_zero : (![0, 0, 0] : Fin 3 → Nat) = fun _ => 0 := funext fun a => by fin_cases a <;> rfl

/-- One store of a whole buffer leaves its payload, whatever the buffer held. -/
theorem read_whole_store {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- A load of a whole buffer reads what the buffer holds. -/
theorem read_whole_load {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  View.ld_unit_zero hz inb (v.read (Elt F) f)

set_option maxHeartbeats 4000000 in
/-- The body on whole buffers: the inputs at `x0 … x6` are left as they are, and each result buffer, whatever it
    held, ends at the payload stored there. -/
theorem sound_kernel (c : Dev nD) (E : Set ℕ) (i : grid0.Coords)
    (arg2 : Memref sig .tc .vmem S1x4x22784 .f32) (harg2 : arg2.IsWhole) (arg3 : Memref sig .tc .vmem S1x4x50 .f32) (harg3 : arg3.IsWhole)
    (arg4 : Memref sig .tc .vmem S1x1x22784 .f32) (harg4 : arg4.IsWhole) (arg5 : Memref sig .tc .vmem S1x2x22784 .f32) (harg5 : arg5.IsWhole)
    (arg6 : Memref sig .tc .vmem S1x2x22784 .f32) (harg6 : arg6.IsWhole) (arg7 : Memref sig .tc .vmem S1x2x22784 .f32) (harg7 : arg7.IsWhole)
    (arg8 : Memref sig .tc .vmem S1x80x22784 .f32) (harg8 : arg8.IsWhole) (arg9 : Memref sig .tc .vmem S1x1x22784 .f32) (harg9 : arg9.IsWhole)
    (arg10 : Memref sig .tc .vmem S1x2x22784 .f32) (harg10 : arg10.IsWhole) (arg11 : Memref sig .tc .vmem S1x2x22784 .f32) (harg11 : arg11.IsWhole)
    (arg12 : Memref sig .tc .vmem S1x2x22784 .f32) (harg12 : arg12.IsWhole) (arg13 : Memref sig .tc .vmem S1x80x22784 .f32) (harg13 : arg13.IsWhole)
    (arg14 : Memref sig .tc .vmem S1x80x22784 .f32) (harg14 : arg14.IsWhole)
    (x0 : Vec F S1x4x22784 .f32) (x1 : Vec F S1x4x50 .f32) (x2 : Vec F S1x1x22784 .f32) (x3 x4 x5 : Vec F S1x2x22784 .f32)
    (x6 : Vec F S1x80x22784 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare (k0_pay8 (k0_pay5 x0 x1) x2)
            ∗ owns (c : Thread nD τ) arg10 fullShare (k0_pay9 x2 x3)
            ∗ owns (c : Thread nD τ) arg11 fullShare (k0_pay10 x2 x4)
            ∗ owns (c : Thread nD τ) arg12 fullShare (k0_pay1 (k0_pay7 x2) x5)
            ∗ owns (c : Thread nD τ) arg13 fullShare (k0_pay3 (k0_pay7 x2) x6)
            ∗ owns (c : Thread nD τ) arg14 fullShare (k0_pay4 (k0_pay7 x2) x6)) -∗ K ⟨⟩))
      ⊢ wp frame (wpE (defs₀ (F := F)) Variants.none c none) E
          (cc0_yolov3_target_merge i arg2 harg2 arg3 harg3 arg4 harg4 arg5 harg5 arg6 harg6 arg7 harg7 arg8 harg8 arg9 harg9
            arg10 harg10 arg11 harg11 arg12 harg12 arg13 harg13 arg14 harg14) K := by
  rw [cc0_yolov3_target_merge_eq_skeleton]
  unfold cc0_yolov3_target_merge_skel
  rw [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_whole_store _ _ offsets_zero _ _).trans ?_
    repeat rw [read_whole_load _ _ offsets_zero]
  isplitl [H8]
  · iexists _; isplitr
    swap; · iexact H8
    ipureintro
    refine (read_whole_store _ _ offsets_zero _ _).trans ?_
    repeat rw [read_whole_load _ _ offsets_zero]
  isplitl [H9]
  · iexists _; isplitr
    swap; · iexact H9
    ipureintro
    refine (read_whole_store _ _ offsets_zero _ _).trans ?_
    repeat rw [read_whole_load _ _ offsets_zero]
  isplitl [H10]
  · iexists _; isplitr
    swap; · iexact H10
    ipureintro
    refine (read_whole_store _ _ offsets_zero _ _).trans ?_
    repeat rw [read_whole_load _ _ offsets_zero]
  isplitl [H11]
  · iexists _; isplitr
    swap; · iexact H11
    ipureintro
    refine (read_whole_store _ _ offsets_zero _ _).trans ?_
    repeat rw [read_whole_load _ _ offsets_zero]
  iexists _; isplitr
  swap; · iexact H12
  ipureintro
  refine (read_whole_store _ _ offsets_zero _ _).trans ?_
  repeat rw [read_whole_load _ _ offsets_zero]

end Cert.KernelIdeal.Merge

end
-- ==== Proof.Region.lean ====
/-
  The kernel's region as the pipeline runs it: what each staging buffer holds at a grid point, and the body's
  obligation there. The lanes are tiled past the end of the arrays, so each buffer but the boxes' is stated on the
  lanes inside the array only. The obligation is proved twice: forgetting what the results hold, which is all the
  frame asks and needs nothing of the float values, and naming it, from the agreement `Agrees`.
-/
module

public import proofs.«01_k».proof.Proof.Body

@[expose] public section

set_option maxRecDepth 16384

noncomputable section

namespace Cert.KernelIdeal.Merge

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F]

local notation "𝕄" => MT nD τ sig Unit (Elt F) ℕ (UR sig nD τ) ℕ

/-- Contents of the six result arrays, lanes last as the kernel lays them out. -/
structure Results (F : FTy → Type) where
  objectness : S32x1x22743.Idx → Elt F .f32
  centers : S32x2x22743.Idx → Elt F .f32
  scales : S32x2x22743.Idx → Elt F .f32
  weights : S32x2x22743.Idx → Elt F .f32
  classes : S32x80x22743.Idx → Elt F .f32
  classMask : S32x80x22743.Idx → Elt F .f32

/-- The word the statements put past the end of an array; nothing reads it. -/
def pad : Elt F .f32 := Scalar.ofBits .f32 0#32

variable (m : (ℓ : Loc nD τ sig) → Buf (Elt F) ℓ) (O : Dev nD → Results F)

/-- The proof data: the arrays as the region finds them; each input buffer left at its block and each result buffer
    at the block of `O`, on the lanes inside the array; nothing else is tracked. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => pad) (iblk m c 0 t)
    | ⟨1, _⟩ => iblk m c 1 t
    | ⟨2, _⟩ => win0_2.fill (grid0.coords t) (fun _ => pad) (iblk m c 2 t)
    | ⟨3, _⟩ => win0_3.fill (grid0.coords t) (fun _ => pad) (iblk m c 3 t)
    | ⟨4, _⟩ => win0_4.fill (grid0.coords t) (fun _ => pad) (iblk m c 4 t)
    | ⟨5, _⟩ => win0_5.fill (grid0.coords t) (fun _ => pad) (iblk m c 5 t)
    | ⟨6, _⟩ => win0_6.fill (grid0.coords t) (fun _ => pad) (iblk m c 6 t)
    | ⟨7, _⟩ => win0_7.fill (grid0.coords t) (fun _ => pad) ((win0_7.blk t).view.read (Elt F) (O c).objectness)
    | ⟨8, _⟩ => win0_8.fill (grid0.coords t) (fun _ => pad) ((win0_8.blk t).view.read (Elt F) (O c).centers)
    | ⟨9, _⟩ => win0_9.fill (grid0.coords t) (fun _ => pad) ((win0_9.blk t).view.read (Elt F) (O c).scales)
    | ⟨10, _⟩ => win0_10.fill (grid0.coords t) (fun _ => pad) ((win0_10.blk t).view.read (Elt F) (O c).weights)
    | ⟨11, _⟩ => win0_11.fill (grid0.coords t) (fun _ => pad) ((win0_11.blk t).view.read (Elt F) (O c).classes)
    | ⟨12, _⟩ => win0_12.fill (grid0.coords t) (fun _ => pad) ((win0_12.blk t).view.read (Elt F) (O c).classMask)
  Φ _ := Pipeline.ΦA spec0 c
  q _ := fullShare
  owed _ := 0

/-! What the body finds in each input buffer: its block, and any words past the end of the array. -/

/-- The predicted boxes' buffer. -/
theorem before_0 (c : Dev nD) (t : Fin cfg0.N) (d) :
    (dats m O 0 c).before (0 : Fin 13) t d = win0_0.fill (grid0.coords t) d (iblk m c 0 t) := by
  unfold Dat.before; rw [if_pos (fetch0_0 t)]; rfl
/-- The true boxes' buffer, whose blocks never pass the end. -/
theorem before_1 (c : Dev nD) (t : Fin cfg0.N) (d) : (dats m O 0 c).before (1 : Fin 13) t d = iblk m c 1 t :=
  before0_1_of m (dats m O 0 c) rfl (fun _ => rfl) t d
/-- The objectness buffer. -/
theorem before_2 (c : Dev nD) (t : Fin cfg0.N) (d) :
    (dats m O 0 c).before (2 : Fin 13) t d = win0_2.fill (grid0.coords t) d (iblk m c 2 t) := by
  unfold Dat.before; rw [if_pos (fetch0_2 t)]; rfl
/-- The centre targets' buffer. -/
theorem before_3 (c : Dev nD) (t : Fin cfg0.N) (d) :
    (dats m O 0 c).before (3 : Fin 13) t d = win0_3.fill (grid0.coords t) d (iblk m c 3 t) := by
  unfold Dat.before; rw [if_pos (fetch0_3 t)]; rfl
/-- The scale targets' buffer. -/
theorem before_4 (c : Dev nD) (t : Fin cfg0.N) (d) :
    (dats m O 0 c).before (4 : Fin 13) t d = win0_4.fill (grid0.coords t) d (iblk m c 4 t) := by
  unfold Dat.before; rw [if_pos (fetch0_4 t)]; rfl
/-- The weights' buffer. -/
theorem before_5 (c : Dev nD) (t : Fin cfg0.N) (d) :
    (dats m O 0 c).before (5 : Fin 13) t d = win0_5.fill (grid0.coords t) d (iblk m c 5 t) := by
  unfold Dat.before; rw [if_pos (fetch0_5 t)]; rfl
/-- The class targets' buffer. -/
theorem before_6 (c : Dev nD) (t : Fin cfg0.N) (d) :
    (dats m O 0 c).before (6 : Fin 13) t d = win0_6.fill (grid0.coords t) d (iblk m c 6 t) := by
  unfold Dat.before; rw [if_pos (fetch0_6 t)]; rfl

/-- A buffer that agrees with `P` on the lanes inside the array is `P` there and something past it. -/
theorem leave_loose (c : Dev nD) (w : Window sig grid0) (t : Fin cfg0.N) (s : Fin w.nbuf)
    (X P : w.block.Idx → Elt F w.elt) (h : w.cut (grid0.coords t) P = w.cut (grid0.coords t) X) :
    (owns (c : Thread nD τ) (w.stage s) fullShare X : sProp 𝕄)
      ⊢ iprop(∃ d, owns (c : Thread nD τ) (w.stage s) fullShare (w.fill (grid0.coords t) d (w.cut (grid0.coords t) P))) := by
  iintro H
  iexists X
  rw [h, w.fill_cut]
  iexact H

/-- The body the pipeline calls at point `t` is the kernel on the point's staging buffers. -/
theorem body_row (t : Fin cfg0.N) : defs₀ (F := F) .tc cfg0.body (cfg0.bodyArgs t (cfg0.slots t)) = bodyAt0 t := by
  unfold defs₀; rw [Defs.onTc_tc]

/-- What the values have to say: whatever lies past the end of the input arrays, each payload is the block of `O` on
    the lanes inside the result array. -/
structure Agrees (c : Dev nD) (t : Fin cfg0.N) : Prop where
  objectness : ∀ d0 d2, win0_7.cut (grid0.coords t) (k0_pay8 (k0_pay5 (win0_0.fill (grid0.coords t) d0 (iblk m c 0 t)) (iblk m c 1 t))
      (win0_2.fill (grid0.coords t) d2 (iblk m c 2 t))) = (win0_7.blk t).view.read (Elt F) (O c).objectness
  centers : ∀ d2 d3, win0_8.cut (grid0.coords t) (k0_pay9 (win0_2.fill (grid0.coords t) d2 (iblk m c 2 t))
      (win0_3.fill (grid0.coords t) d3 (iblk m c 3 t))) = (win0_8.blk t).view.read (Elt F) (O c).centers
  scales : ∀ d2 d4, win0_9.cut (grid0.coords t) (k0_pay10 (win0_2.fill (grid0.coords t) d2 (iblk m c 2 t))
      (win0_4.fill (grid0.coords t) d4 (iblk m c 4 t))) = (win0_9.blk t).view.read (Elt F) (O c).scales
  weights : ∀ d2 d5, win0_10.cut (grid0.coords t) (k0_pay1 (k0_pay7 (win0_2.fill (grid0.coords t) d2 (iblk m c 2 t)))
      (win0_5.fill (grid0.coords t) d5 (iblk m c 5 t))) = (win0_10.blk t).view.read (Elt F) (O c).weights
  classes : ∀ d2 d6, win0_11.cut (grid0.coords t) (k0_pay3 (k0_pay7 (win0_2.fill (grid0.coords t) d2 (iblk m c 2 t)))
      (win0_6.fill (grid0.coords t) d6 (iblk m c 6 t))) = (win0_11.blk t).view.read (Elt F) (O c).classes
  classMask : ∀ d2 d6, win0_12.cut (grid0.coords t) (k0_pay4 (k0_pay7 (win0_2.fill (grid0.coords t) d2 (iblk m c 2 t)))
      (win0_6.fill (grid0.coords t) d6 (iblk m c 6 t))) = (win0_12.blk t).view.read (Elt F) (O c).classMask

/-- The windows whose contents the frame forgets: the six results. -/
def fgt : Fin 13 → Bool := fun w => decide (7 ≤ w.val)

/-- The inputs are kept and the results forgotten. -/
theorem fgt_eq : (fgt 0 = false ∧ fgt 1 = false ∧ fgt 2 = false ∧ fgt 3 = false ∧ fgt 4 = false ∧ fgt 5 = false ∧ fgt 6 = false)
    ∧ (fgt 7 = true ∧ fgt 8 = true ∧ fgt 9 = true ∧ fgt 10 = true ∧ fgt 11 = true ∧ fgt 12 = true) := by decide

set_option maxHeartbeats 4000000 in
/-- The body's obligation with the results' buffers forgotten. -/
theorem body_forget (c : Dev nD) :
    BodyObligationLoose (dats m O 0 c) (defs₀ (F := F)) Variants.none () Set.univ fgt := fun t => by
  rw [bigSep_W0, bigSep_W0, body_row]
  simp only [fgt_eq]
  rw [show (dats m O 0 c).Φ t.succ = (dats m O 0 c).Φ t.castSucc from rfl,
    show (dats m O 0 c).owesAt () t.succ = (dats m O 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, H7, H8, H9, H10, H11, H12⟩
  rw [before_0 m O c t d0, before_1 m O c t d1, before_2 m O c t d2, before_3 m O c t d3, before_4 m O c t d4,
    before_5 m O c t d5, before_6 m O c t d6]
  iapply (sound_kernel (F := F) c Set.univ (grid0.coords t) _ _ _ _ _ _ _ _ _ _ _ _ _ _ _ _ _ _ _ _ _ _ _ _ _ _
    (win0_0.fill (grid0.coords t) d0 (iblk m c 0 t)) (iblk m c 1 t) (win0_2.fill (grid0.coords t) d2 (iblk m c 2 t))
    (win0_3.fill (grid0.coords t) d3 (iblk m c 3 t)) (win0_4.fill (grid0.coords t) d4 (iblk m c 4 t))
    (win0_5.fill (grid0.coords t) d5 (iblk m c 5 t)) (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iapply (leave_loose c win0_0 t _ _ _ ((win0_0.cut_fill _ _ _).trans (win0_0.cut_fill _ _ _).symm)); iexact H0
  isplitl [H1]; · iexact H1
  isplitl [H2]; · iapply (leave_loose c win0_2 t _ _ _ ((win0_2.cut_fill _ _ _).trans (win0_2.cut_fill _ _ _).symm)); iexact H2
  isplitl [H3]; · iapply (leave_loose c win0_3 t _ _ _ ((win0_3.cut_fill _ _ _).trans (win0_3.cut_fill _ _ _).symm)); iexact H3
  isplitl [H4]; · iapply (leave_loose c win0_4 t _ _ _ ((win0_4.cut_fill _ _ _).trans (win0_4.cut_fill _ _ _).symm)); iexact H4
  isplitl [H5]; · iapply (leave_loose c win0_5 t _ _ _ ((win0_5.cut_fill _ _ _).trans (win0_5.cut_fill _ _ _).symm)); iexact H5
  isplitl [H6]; · iapply (leave_loose c win0_6 t _ _ _ ((win0_6.cut_fill _ _ _).trans (win0_6.cut_fill _ _ _).symm)); iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

set_option maxHeartbeats 4000000 in
/-- The body's obligation with every buffer named, from the agreement of the values. -/
theorem body_exact (c : Dev nD) (h : ∀ t, Agrees m O c t) :
    BodyObligationLoose (dats m O 0 c) (defs₀ (F := F)) Variants.none () Set.univ := fun t => by
  rw [bigSep_W0, bigSep_W0, body_row]
  simp only
  rw [show (dats m O 0 c).Φ t.succ = (dats m O 0 c).Φ t.castSucc from rfl,
    show (dats m O 0 c).owesAt () t.succ = (dats m O 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before_0 m O c t d0, before_1 m O c t d1, before_2 m O c t d2, before_3 m O c t d3, before_4 m O c t d4,
    before_5 m O c t d5, before_6 m O c t d6]
  iapply (sound_kernel (F := F) c Set.univ (grid0.coords t) _ _ _ _ _ _ _ _ _ _ _ _ _ _ _ _ _ _ _ _ _ _ _ _ _ _
    (win0_0.fill (grid0.coords t) d0 (iblk m c 0 t)) (iblk m c 1 t) (win0_2.fill (grid0.coords t) d2 (iblk m c 2 t))
    (win0_3.fill (grid0.coords t) d3 (iblk m c 3 t)) (win0_4.fill (grid0.coords t) d4 (iblk m c 4 t))
    (win0_5.fill (grid0.coords t) d5 (iblk m c 5 t)) (win0_6.fill (grid0.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iapply (leave_loose c win0_0 t _ _ _ ((win0_0.cut_fill _ _ _).trans (win0_0.cut_fill _ _ _).symm)); iexact H0
  isplitl [H1]; · iexact H1
  isplitl [H2]; · iapply (leave_loose c win0_2 t _ _ _ ((win0_2.cut_fill _ _ _).trans (win0_2.cut_fill _ _ _).symm)); iexact H2
  isplitl [H3]; · iapply (leave_loose c win0_3 t _ _ _ ((win0_3.cut_fill _ _ _).trans (win0_3.cut_fill _ _ _).symm)); iexact H3
  isplitl [H4]; · iapply (leave_loose c win0_4 t _ _ _ ((win0_4.cut_fill _ _ _).trans (win0_4.cut_fill _ _ _).symm)); iexact H4
  isplitl [H5]; · iapply (leave_loose c win0_5 t _ _ _ ((win0_5.cut_fill _ _ _).trans (win0_5.cut_fill _ _ _).symm)); iexact H5
  isplitl [H6]; · iapply (leave_loose c win0_6 t _ _ _ ((win0_6.cut_fill _ _ _).trans (win0_6.cut_fill _ _ _).symm)); iexact H6
  isplitl [H7]; · iapply (leave_loose c win0_7 t _ _ _ ((win0_7.cut_fill _ _ _).trans ((h t).objectness d0 d2).symm)); iexact H7
  isplitl [H8]; · iapply (leave_loose c win0_8 t _ _ _ ((win0_8.cut_fill _ _ _).trans ((h t).centers d2 d3).symm)); iexact H8
  isplitl [H9]; · iapply (leave_loose c win0_9 t _ _ _ ((win0_9.cut_fill _ _ _).trans ((h t).scales d2 d4).symm)); iexact H9
  isplitl [H10]; · iapply (leave_loose c win0_10 t _ _ _ ((win0_10.cut_fill _ _ _).trans ((h t).weights d2 d5).symm)); iexact H10
  isplitl [H11]; · iapply (leave_loose c win0_11 t _ _ _ ((win0_11.cut_fill _ _ _).trans ((h t).classes d2 d6).symm)); iexact H11
  iapply (leave_loose c win0_12 t _ _ _ ((win0_12.cut_fill _ _ _).trans ((h t).classMask d2 d6).symm)); iexact H12

end Cert.KernelIdeal.Merge

end
-- ==== Proof.Runs.lean ====
/-
  The kernel's runs: the frame at any float values (the arguments unchanged, every counter zero again), and the
  run that names the result arrays, from the agreement of the values at every grid point.
-/
module

public import proofs.«01_k».proof.Proof.Region

@[expose] public section

set_option maxRecDepth 16384

noncomputable section

namespace Cert.KernelIdeal.Merge

open Cert.KernelIdeal Cert.KernelIdeal.Gen
open Idealize.ShloMosaic
open Idealize.ShloMosaic.TcCoe
open Idealize.SL Idealize.SL.RA Idealize.SL.Sem

variable {F : FTy → Type} [FloatOps F]
variable (m : (ℓ : Loc nD τ sig) → Buf (Elt F) ℓ) (O : Dev nD → Results F) (ρ : Dev nD → PrngReg)

/-- The buffers the operations after the region write: the returned results. -/
def T : Finset (Ref sig .tc) := {main_v8, main_v9, main_v10, main_v11, main_v12, main_v13}

/-- They write nothing else. -/
theorem suffix_writes : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
    (simp only [StableHlo.unary_writes, Finset.mem_singleton] at hb
     have := Proc.devRef_injective _ hb
     subst this
     decide)

set_option backward.isDefEq.respectTransparency.types false in
/-- At any float values the kernel runs, its arguments end as launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget cfgs (dats m fun _ => ⟨fun _ => pad, fun _ => pad, fun _ => pad, fun _ => pad, fun _ => pad, fun _ => pad⟩) 0
    launch0 defs₀ Variants.none fgt T m ρ main
    (hbody := body_forget m _) (hshare := fun c => (dats m _ 0 c).share_full fun _ => rfl) (howed := fun _ _ => rfl)
    (V₀ := V0 m) (opss := [hostOps1]) (hsub := sfx_sub) (hfresh := sfx_fresh) (hkeep := sfx_keeps) (hT := suffix_writes)
    (hmain := hmain m Variants.none) (hA := fun _ _ => rfl) (hΦ := fun _ _ => rfl)
    (Q' := _)
    (hQ' := fun r h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c),
       ((h.1 c).2 main_arg2 (Finset.mem_sdiff.mpr ⟨Pipeline.mem_restRefs_of main_arg2 (by decide) (by decide), by decide⟩)).trans (V_main_arg2 m c),
       ((h.1 c).2 main_arg3 (Finset.mem_sdiff.mpr ⟨Pipeline.mem_restRefs_of main_arg3 (by decide) (by decide), by decide⟩)).trans (V_main_arg3 m c),
       ((h.1 c).2 main_arg4 (Finset.mem_sdiff.mpr ⟨Pipeline.mem_restRefs_of main_arg4 (by decide) (by decide), by decide⟩)).trans (V_main_arg4 m c),
       ((h.1 c).2 main_arg5 (Finset.mem_sdiff.mpr ⟨Pipeline.mem_restRefs_of main_arg5 (by decide) (by decide), by decide⟩)).trans (V_main_arg5 m c),
       ((h.1 c).2 main_arg6 (Finset.mem_sdiff.mpr ⟨Pipeline.mem_restRefs_of main_arg6 (by decide) (by decide), by decide⟩)).trans (V_main_arg6 m c)⟩, h.2⟩)

set_option backward.isDefEq.respectTransparency.types false in
/-- The run with every array named as the pipeline computes it, from the agreement of the values. -/
theorem run_named (h : ∀ c t, Agrees m O c t) : θ_run defs (onTc (τ := τ) (main (F := F))) ⟨m, fun _ => 0, ρ⟩
    (Pipeline.FramePost cfgs (dats m O) 0 (Pipeline.afterTail₀ cfgs (dats m O) 0 (V0 m) [hostOps1])) :=
  Pipeline.θ_run_frame_around cfgs (dats m O) 0 launch0 defs₀ Variants.none m ρ main
    (hbody := fun c => body_exact m O c (h c)) (hshare := fun c => (dats m O 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)

end Cert.KernelIdeal.Merge

end
-- ==== Proof.Transfer.lean ====
/-
  The kernel as written and its idealization are one text, so their programs are equal by unfolding and the frame
  proved of the second, at the words a device holds, is the frame of the first.
-/
module

public import proofs.«01_k».proof.Defs
public import proofs.«01_k».proof.Proof.Gen.Kernel
public import proofs.«01_k».proof.Proof.Gen.KernelIdeal
public import proofs.«01_k».proof.Proof.Runs

@[expose] public section

noncomputable section

namespace Cert.Transfer

open Idealize.ShloMosaic Idealize.ShloMosaic.TcCoe Idealize.SL.Sem

attribute [local instance] Cert.Kernel.Gen.facts Cert.KernelIdeal.Gen.facts

set_option maxHeartbeats 4000000 in
set_option maxRecDepth 20000 in
/-- The two programs have the same body. -/
theorem defs₀_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig)
    (Val := Elt Bits) (Λ := Cert.KernelIdeal.Λ₀)) ?_
  funext l a
  match l, a with
  | 0, (t, s) => rfl

/-- And the same functions, the pipeline's included. -/
theorem defs_eq : Cert.Kernel.defs (F := Bits) = Cert.KernelIdeal.defs (F := Bits) :=
  congrArg (Pipeline.defs Cert.KernelIdeal.pcfgs) defs₀_eq

set_option maxHeartbeats 4000000 in
set_option maxRecDepth 20000 in
/-- The kernel as written runs, its arguments end unchanged, and every counter ends at zero. -/
theorem frame_Kernel : Cert.quiescent_Kernel := fun m g _ => by
  rw [defs_eq]
  exact Cert.KernelIdeal.Merge.frame (F := Bits) m g

/-- So does its idealization. -/
theorem frame_KernelIdeal : Cert.quiescent_KernelIdeal := fun m g _ => Cert.KernelIdeal.Merge.frame (F := Ideal) m g

end Cert.Transfer

end
-- ==== Proof.Blocks.lean ====
/-
  The input blocks at a lane inside the arrays: the words of the arguments, whatever lies past the end.
-/
module

public import proofs.«01_k».proof.Proof.Region

@[expose] public section

set_option maxRecDepth 16384

noncomputable section

namespace Cert.KernelIdeal.Merge

open Cert.KernelIdeal Cert.KernelIdeal.Gen
open Idealize.ShloMosaic Idealize.ShloMosaic.TcCoe
open Idealize.ShloMosaic.Pipeline (Window)

/-- Every window's block at a grid point is the batch element of the point's number, from row and lane zero on. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0] :=
  (by decide +kernel : ∀ t : Fin grid0.N, _)

/-- A transfer moves all rows of the block's batch element, and the lanes inside the array. -/
theorem xsize : ∀ t : Fin cfg0.N, win0_0.xsize (grid0.coords t) = ![1, 4, 22743]
    ∧ win0_2.xsize (grid0.coords t) = ![1, 1, 22743]
    ∧ win0_3.xsize (grid0.coords t) = ![1, 2, 22743]
    ∧ win0_4.xsize (grid0.coords t) = ![1, 2, 22743]
    ∧ win0_5.xsize (grid0.coords t) = ![1, 2, 22743]
    ∧ win0_6.xsize (grid0.coords t) = ![1, 80, 22743]
    ∧ win0_7.xsize (grid0.coords t) = ![1, 1, 22743]
    ∧ win0_8.xsize (grid0.coords t) = ![1, 2, 22743]
    ∧ win0_9.xsize (grid0.coords t) = ![1, 2, 22743]
    ∧ win0_10.xsize (grid0.coords t) = ![1, 2, 22743]
    ∧ win0_11.xsize (grid0.coords t) = ![1, 80, 22743]
    ∧ win0_12.xsize (grid0.coords t) = ![1, 80, 22743] :=
  (by decide +kernel : ∀ t : Fin grid0.N, _)

/-- A filled buffer at an index the transfer moves holds what the transfer brought. -/
theorem fill_moved {sig : RefSig} {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ :=
  dif_pos ((w.moved_iff i j).mpr h)

/-- Bounds on three axes, axis by axis. -/
theorem below {d : Fin 3 → ℕ} (j : (a : Fin 3) → Fin (d a)) {x : Fin 3 → ℕ} {p q r : ℕ} (hx : x = ![p, q, r])
    (h0 : (j 0).val < p) (h1 : (j 1).val < q) (h2 : (j 2).val < r) : ∀ a, (j a).val < x a := by
  subst hx
  intro a
  match a with
  | ⟨0, _⟩ => exact h0
  | ⟨1, _⟩ => exact h1
  | ⟨2, _⟩ => exact h2

variable (m : (ℓ : Loc nD τ sig) → Buf (Elt Ideal) ℓ) (c : Dev nD)

/-- The region finds each argument with its last two axes exchanged. -/
theorem operands :
    V m c main_v0 = transpose S32x4x22743 [0, 2, 1] (m ((c : Thread nD τ).loc main_arg0)) transposes_S32x22743x4_S32x4x22743_0_2_1
    ∧ V m c main_v1 = transpose S32x4x50 [0, 2, 1] (m ((c : Thread nD τ).loc main_arg1)) transposes_S32x50x4_S32x4x50_0_2_1
    ∧ V m c main_v2 = transpose S32x1x22743 [0, 2, 1] (m ((c : Thread nD τ).loc main_arg2)) transposes_S32x22743x1_S32x1x22743_0_2_1
    ∧ V m c main_v3 = transpose S32x2x22743 [0, 2, 1] (m ((c : Thread nD τ).loc main_arg3)) transposes_S32x22743x2_S32x2x22743_0_2_1
    ∧ V m c main_v4 = transpose S32x2x22743 [0, 2, 1] (m ((c : Thread nD τ).loc main_arg4)) transposes_S32x22743x2_S32x2x22743_0_2_1
    ∧ V m c main_v5 = transpose S32x2x22743 [0, 2, 1] (m ((c : Thread nD τ).loc main_arg5)) transposes_S32x22743x2_S32x2x22743_0_2_1
    ∧ V m c main_v6 = transpose S32x80x22743 [0, 2, 1] (m ((c : Thread nD τ).loc main_arg6)) transposes_S32x22743x80_S32x80x22743_0_2_1 := by
  refine ⟨?_, ?_, ?_, ?_, ?_, ?_, ?_⟩ <;>
  · show StableHlo.after [hostOps0].flatten _ _ = _
    simp only [hostOps0, List.flatten_cons, List.flatten_nil, List.append_nil]
    after_results_simp

/-- The predicted boxes' block, inside the array. -/
theorem in_0 (t : Fin cfg0.N) (d) (r : Fin 4) (l : Fin 22784) (hl : l.val < 22743) :
    win0_0.fill (grid0.coords t) d (iblk m c 0 t) (ix3 0 r l)
      = m ((c : Thread nD τ).loc main_arg0) (ix3 (⟨t.val, t.isLt⟩ : Fin 32) (⟨l.val, hl⟩ : Fin 22743) r) := by
  rw [fill_moved win0_0 (grid0.coords t) d (iblk m c 0 t) (ix3 0 r l) (below _ (xsize t).1 Nat.zero_lt_one r.isLt hl)]
  blk_simp [iblk]
  rw [(operands m c).1]
  pointwise
  blk_ext [idx t]

/-- The objectness' block, inside the array. -/
theorem in_2 (t : Fin cfg0.N) (d) (r : Fin 1) (l : Fin 22784) (hl : l.val < 22743) :
    win0_2.fill (grid0.coords t) d (iblk m c 2 t) (ix3 0 r l)
      = m ((c : Thread nD τ).loc main_arg2) (ix3 (⟨t.val, t.isLt⟩ : Fin 32) (⟨l.val, hl⟩ : Fin 22743) r) := by
  rw [fill_moved win0_2 (grid0.coords t) d (iblk m c 2 t) (ix3 0 r l) (below _ (xsize t).2.1 Nat.zero_lt_one r.isLt hl)]
  blk_simp [iblk]
  rw [(operands m c).2.2.1]
  pointwise
  blk_ext [idx t]

/-- The centres' block, inside the array. -/
theorem in_3 (t : Fin cfg0.N) (d) (r : Fin 2) (l : Fin 22784) (hl : l.val < 22743) :
    win0_3.fill (grid0.coords t) d (iblk m c 3 t) (ix3 0 r l)
      = m ((c : Thread nD τ).loc main_arg3) (ix3 (⟨t.val, t.isLt⟩ : Fin 32) (⟨l.val, hl⟩ : Fin 22743) r) := by
  rw [fill_moved win0_3 (grid0.coords t) d (iblk m c 3 t) (ix3 0 r l) (below _ (xsize t).2.2.1 Nat.zero_lt_one r.isLt hl)]
  blk_simp [iblk]
  rw [(operands m c).2.2.2.1]
  pointwise
  blk_ext [idx t]

/-- The scales' block, inside the array. -/
theorem in_4 (t : Fin cfg0.N) (d) (r : Fin 2) (l : Fin 22784) (hl : l.val < 22743) :
    win0_4.fill (grid0.coords t) d (iblk m c 4 t) (ix3 0 r l)
      = m ((c : Thread nD τ).loc main_arg4) (ix3 (⟨t.val, t.isLt⟩ : Fin 32) (⟨l.val, hl⟩ : Fin 22743) r) := by
  rw [fill_moved win0_4 (grid0.coords t) d (iblk m c 4 t) (ix3 0 r l) (below _ (xsize t).2.2.2.1 Nat.zero_lt_one r.isLt hl)]
  blk_simp [iblk]
  rw [(operands m c).2.2.2.2.1]
  pointwise
  blk_ext [idx t]

/-- The weights' block, inside the array. -/
theorem in_5 (t : Fin cfg0.N) (d) (r : Fin 2) (l : Fin 22784) (hl : l.val < 22743) :
    win0_5.fill (grid0.coords t) d (iblk m c 5 t) (ix3 0 r l)
      = m ((c : Thread nD τ).loc main_arg5) (ix3 (⟨t.val, t.isLt⟩ : Fin 32) (⟨l.val, hl⟩ : Fin 22743) r) := by
  rw [fill_moved win0_5 (grid0.coords t) d (iblk m c 5 t) (ix3 0 r l) (below _ (xsize t).2.2.2.2.1 Nat.zero_lt_one r.isLt hl)]
  blk_simp [iblk]
  rw [(operands m c).2.2.2.2.2.1]
  pointwise
  blk_ext [idx t]

/-- The class targets' block, inside the array. -/
theorem in_6 (t : Fin cfg0.N) (d) (r : Fin 80) (l : Fin 22784) (hl : l.val < 22743) :
    win0_6.fill (grid0.coords t) d (iblk m c 6 t) (ix3 0 r l)
      = m ((c : Thread nD τ).loc main_arg6) (ix3 (⟨t.val, t.isLt⟩ : Fin 32) (⟨l.val, hl⟩ : Fin 22743) r) := by
  rw [fill_moved win0_6 (grid0.coords t) d (iblk m c 6 t) (ix3 0 r l) (below _ (xsize t).2.2.2.2.2.1 Nat.zero_lt_one r.isLt hl)]
  blk_simp [iblk]
  rw [(operands m c).2.2.2.2.2.2]
  pointwise
  blk_ext [idx t]

/-- The true boxes' block, which lies inside its array. -/
theorem in_1 (t : Fin cfg0.N) (r : Fin 4) (k : Fin 50) :
    iblk m c 1 t (ix3 0 r k) = m ((c : Thread nD τ).loc main_arg1) (ix3 (⟨t.val, t.isLt⟩ : Fin 32) k r) := by
  blk_simp [iblk]
  rw [(operands m c).2.1]
  pointwise
  blk_ext [idx t]

end Cert.KernelIdeal.Merge

end
-- ==== Proof.Scalars.lean ====
/-
  The merge of one anchor, in extended reals: the overlap of two boxes, the best overlap over the true boxes, and the
  six results as functions of one anchor's objectness and of the words to be kept or replaced.
-/
module

public import Idealize.ShloMosaic.Lib.Pointwise

@[expose] public section

noncomputable section

namespace Cert.Merge

open Idealize.ShloMosaic

/-- The word of `-1`, the mark of an anchor to be ignored. -/
def ignored : EReal := Ideal.ofBits .f32 0xBF800000#32

/-- The length two intervals `[a, b]` and `[a', b']` share. -/
def shared (a b a' b' : EReal) : EReal := max (min b b' - max a a') 0

/-- The area two boxes share. -/
def overlap (p g : Fin 4 → EReal) : EReal := shared (p 0) (p 2) (g 0) (g 2) * shared (p 1) (p 3) (g 1) (g 3)

/-- The area of a box. -/
def area (p : Fin 4 → EReal) : EReal := (p 2 - p 0) * (p 3 - p 1)

/-- The area two boxes share over the area they cover together, the small constant in the denominator included. -/
def iou (p g : Fin 4 → EReal) : EReal :=
  Ideal.div (overlap p g) (area p + area g - overlap p g + Ideal.ofBits .f32 0x2B8CBCCC#32)

/-- The largest overlap of a box with the true boxes, from the word of minus infinity up. -/
def best (p : Fin 4 → EReal) (g : Fin 50 → Fin 4 → EReal) : EReal :=
  Finset.univ.fold max (Ideal.ofBits .f32 0xFF800000#32) fun k => iou p (g k)

/-- A word kept where the anchor is assigned, replaced by `alt` where it is not. -/
def kept (o x alt : EReal) : EReal := if 0 < o then x else alt

/-- The merged objectness: an assigned anchor's own, otherwise `-1` past the threshold and `0` below it. -/
def merged (p : Fin 4 → EReal) (g : Fin 50 → Fin 4 → EReal) (o : EReal) : EReal :=
  kept o o (if Ideal.ofBits .f32 0x3F333333#32 < best p g then ignored else 0)

/-- The class mask: one where the anchor is assigned and the class target is not negative. -/
def counted (o x : EReal) : EReal := if 0 < o ∧ 0 ≤ x then 1 else 0

end Cert.Merge

end
-- ==== Proof.Payloads.lean ====
/-
  The kernel's six stored blocks, read at a lane: each is the scalar merge of the words the input blocks hold at that
  lane.
-/
module

public import proofs.«01_k».proof.Proof.Gen.KernelIdeal.Skeleton
public import proofs.«01_k».proof.Proof.Scalars

@[expose] public section

set_option maxRecDepth 16384
set_option maxHeartbeats 4000000

noncomputable section

namespace Cert.Merge

open Cert.KernelIdeal Cert.KernelIdeal.Gen
open Idealize.ShloMosaic Idealize.ShloMosaic.TcCoe

/-- The objectness block. -/
theorem objectness_at (p : Vec Ideal S1x4x22784 .f32) (g : Vec Ideal S1x4x50 .f32) (o : Vec Ideal S1x1x22784 .f32) (l : Fin 22784) :
    k0_pay8 (k0_pay5 p g) o (ix3 0 0 l)
      = merged (fun i => p (ix3 0 i l)) (fun k i => g (ix3 0 i k)) (o (ix3 0 0 l)) := by
  pointwise [k0_pay8, k0_pay5, k0_pay7, k0_pay6]
  rfl

/-- The centres' block. -/
theorem centers_at (o : Vec Ideal S1x1x22784 .f32) (x : Vec Ideal S1x2x22784 .f32) (r : Fin 2) (l : Fin 22784) :
    k0_pay9 o x (ix3 0 r l) = kept (o (ix3 0 0 l)) (x (ix3 0 r l)) 0 := by
  pointwise [k0_pay9, k0_pay7, k0_pay6]
  rfl

/-- The scales' block. -/
theorem scales_at (o : Vec Ideal S1x1x22784 .f32) (x : Vec Ideal S1x2x22784 .f32) (r : Fin 2) (l : Fin 22784) :
    k0_pay10 o x (ix3 0 r l) = kept (o (ix3 0 0 l)) (x (ix3 0 r l)) 0 := by
  pointwise [k0_pay10, k0_pay7, k0_pay6]
  rfl

/-- The weights' block. -/
theorem weights_at (o : Vec Ideal S1x1x22784 .f32) (x : Vec Ideal S1x2x22784 .f32) (r : Fin 2) (l : Fin 22784) :
    k0_pay1 (k0_pay7 o) x (ix3 0 r l) = kept (o (ix3 0 0 l)) (x (ix3 0 r l)) 0 := by
  pointwise [k0_pay1, k0_pay7, k0_pay6]
  rfl

/-- The class targets' block. -/
theorem classes_at (o : Vec Ideal S1x1x22784 .f32) (x : Vec Ideal S1x80x22784 .f32) (r : Fin 80) (l : Fin 22784) :
    k0_pay3 (k0_pay7 o) x (ix3 0 r l) = kept (o (ix3 0 0 l)) (x (ix3 0 r l)) ignored := by
  pointwise [k0_pay3, k0_pay2, k0_pay7, k0_pay6]
  rfl

/-- A choice by the conjunction of two truth words is a choice by both. -/
theorem select_and {p q : Prop} [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- The class mask's block. -/
theorem classMask_at (o : Vec Ideal S1x1x22784 .f32) (x : Vec Ideal S1x80x22784 .f32) (r : Fin 80) (l : Fin 22784) :
    k0_pay4 (k0_pay7 o) x (ix3 0 r l) = counted (o (ix3 0 0 l)) (x (ix3 0 r l)) := by
  pointwise [k0_pay4, k0_pay2, k0_pay7, k0_pay6]
  exact select_and (1 : EReal) 0

end Cert.Merge

end
-- ==== Proof.Values.lean ====
/-
  The values the kernel computes: each stored block is, on the lanes inside the array, the block of one function of
  the arguments, and so each result array ends as that function.
-/
module

public import proofs.«01_k».proof.Proof.Blocks
public import proofs.«01_k».proof.Proof.Payloads
public import proofs.«01_k».proof.Proof.Runs

@[expose] public section

set_option maxRecDepth 16384
set_option maxHeartbeats 4000000

noncomputable section

namespace Cert.KernelIdeal.Merge

open Cert.KernelIdeal Cert.KernelIdeal.Gen Cert.Merge
open Idealize.ShloMosaic Idealize.ShloMosaic.TcCoe
open Idealize.ShloMosaic.Pipeline (Window Dat)

variable (m : (ℓ : Loc nD τ sig) → Buf (Elt Ideal) ℓ) (c : Dev nD)

/-- The objectness of an anchor. -/
def obj (b : Fin 32) (n : Fin 22743) : EReal := m ((c : Thread nD τ).loc main_arg2) (ix3 b n (0 : Fin 1))

/-- The six results as functions of the arguments, lanes last. -/
def results : Results Ideal where
  objectness j := merged (fun i => m ((c : Thread nD τ).loc main_arg0) (ix3 (j 0 : Fin 32) (j 2 : Fin 22743) i))
    (fun k i => m ((c : Thread nD τ).loc main_arg1) (ix3 (j 0 : Fin 32) k i)) (obj m c (j 0) (j 2))
  centers j := kept (obj m c (j 0) (j 2)) (m ((c : Thread nD τ).loc main_arg3) (ix3 (j 0 : Fin 32) (j 2 : Fin 22743) (j 1 : Fin 2))) 0
  scales j := kept (obj m c (j 0) (j 2)) (m ((c : Thread nD τ).loc main_arg4) (ix3 (j 0 : Fin 32) (j 2 : Fin 22743) (j 1 : Fin 2))) 0
  weights j := kept (obj m c (j 0) (j 2)) (m ((c : Thread nD τ).loc main_arg5) (ix3 (j 0 : Fin 32) (j 2 : Fin 22743) (j 1 : Fin 2))) 0
  classes j := kept (obj m c (j 0) (j 2)) (m ((c : Thread nD τ).loc main_arg6) (ix3 (j 0 : Fin 32) (j 2 : Fin 22743) (j 1 : Fin 80))) ignored
  classMask j := counted (obj m c (j 0) (j 2)) (m ((c : Thread nD τ).loc main_arg6) (ix3 (j 0 : Fin 32) (j 2 : Fin 22743) (j 1 : Fin 80)))

/-- An index of a moved block is a row and a lane inside the array. -/
theorem place {d : Fin 3 → ℕ} (y : (a : Fin 3) → Fin (d a)) {R : ℕ} (hd : d = ![1, R, 22743]) :
    ∃ (r : Fin R) (l : Fin 22784), l.val < 22743 ∧ (y 0).val = 0 ∧ (y 1).val = r.val ∧ (y 2).val = l.val := by
  subst hd
  exact ⟨y 1, ⟨(y 2).val, Nat.lt_trans (y 2).isLt (by decide : (22743 : ℕ) < 22784)⟩, (y 2).isLt, Nat.lt_one_iff.mp (y 0).isLt, rfl, rfl⟩

/-- Every stored block is the block of the results, on the lanes inside the array. -/
theorem agrees (t : Fin cfg0.N) : Agrees m (results m) c t where
  centers d2 d3 := by
    funext y
    obtain ⟨r, l, hl, h0, h1, h2⟩ := place y (R := 2) (by simp only [xsize t])
    show k0_pay9 (F := Ideal) _ _ (win0_8.xinj (grid0.coords t) y) = (results m c).centers ((win0_8.blk t).view.emb y)
    rw [show win0_8.xinj (grid0.coords t) y = ix3 (0 : Fin 1) r l from by blk_ext,
      show (win0_8.blk t).view.emb y = ix3 (⟨t.val, t.isLt⟩ : Fin 32) r (⟨l.val, hl⟩ : Fin 22743) from by blk_ext [idx t],
      centers_at, in_2 m c t _ _ _ hl, in_3 m c t _ _ _ hl]
    rfl
  scales d2 d4 := by
    funext y
    obtain ⟨r, l, hl, h0, h1, h2⟩ := place y (R := 2) (by simp only [xsize t])
    show k0_pay10 (F := Ideal) _ _ (win0_9.xinj (grid0.coords t) y) = (results m c).scales ((win0_9.blk t).view.emb y)
    rw [show win0_9.xinj (grid0.coords t) y = ix3 (0 : Fin 1) r l from by blk_ext,
      show (win0_9.blk t).view.emb y = ix3 (⟨t.val, t.isLt⟩ : Fin 32) r (⟨l.val, hl⟩ : Fin 22743) from by blk_ext [idx t],
      scales_at, in_2 m c t _ _ _ hl, in_4 m c t _ _ _ hl]
    rfl
  weights d2 d5 := by
    funext y
    obtain ⟨r, l, hl, h0, h1, h2⟩ := place y (R := 2) (by simp only [xsize t])
    show k0_pay1 (F := Ideal) _ _ (win0_10.xinj (grid0.coords t) y) = (results m c).weights ((win0_10.blk t).view.emb y)
    rw [show win0_10.xinj (grid0.coords t) y = ix3 (0 : Fin 1) r l from by blk_ext,
      show (win0_10.blk t).view.emb y = ix3 (⟨t.val, t.isLt⟩ : Fin 32) r (⟨l.val, hl⟩ : Fin 22743) from by blk_ext [idx t],
      weights_at, in_2 m c t _ _ _ hl, in_5 m c t _ _ _ hl]
    rfl
  classes d2 d6 := by
    funext y
    obtain ⟨r, l, hl, h0, h1, h2⟩ := place y (R := 80) (by simp only [xsize t])
    show k0_pay3 (F := Ideal) _ _ (win0_11.xinj (grid0.coords t) y) = (results m c).classes ((win0_11.blk t).view.emb y)
    rw [show win0_11.xinj (grid0.coords t) y = ix3 (0 : Fin 1) r l from by blk_ext,
      show (win0_11.blk t).view.emb y = ix3 (⟨t.val, t.isLt⟩ : Fin 32) r (⟨l.val, hl⟩ : Fin 22743) from by blk_ext [idx t],
      classes_at, in_2 m c t _ _ _ hl, in_6 m c t _ _ _ hl]
    rfl
  classMask d2 d6 := by
    funext y
    obtain ⟨r, l, hl, h0, h1, h2⟩ := place y (R := 80) (by simp only [xsize t])
    show k0_pay4 (F := Ideal) _ _ (win0_12.xinj (grid0.coords t) y) = (results m c).classMask ((win0_12.blk t).view.emb y)
    rw [show win0_12.xinj (grid0.coords t) y = ix3 (0 : Fin 1) r l from by blk_ext,
      show (win0_12.blk t).view.emb y = ix3 (⟨t.val, t.isLt⟩ : Fin 32) r (⟨l.val, hl⟩ : Fin 22743) from by blk_ext [idx t],
      classMask_at, in_2 m c t _ _ _ hl, in_6 m c t _ _ _ hl]
    rfl
  objectness d0 d2 := by
    funext y
    obtain ⟨r, l, hl, h0, h1, h2⟩ := place y (R := 1) (by simp only [xsize t])
    show k0_pay8 (F := Ideal) _ _ (win0_7.xinj (grid0.coords t) y) = (results m c).objectness ((win0_7.blk t).view.emb y)
    rw [show win0_7.xinj (grid0.coords t) y = ix3 (0 : Fin 1) (0 : Fin 1) l from by blk_ext,
      show (win0_7.blk t).view.emb y = ix3 (⟨t.val, t.isLt⟩ : Fin 32) (0 : Fin 1) (⟨l.val, hl⟩ : Fin 22743) from by blk_ext [idx t],
      objectness_at, in_2 m c t _ _ _ hl]
    simp only [in_0 m c t _ _ _ hl, in_1 m c t]
    rfl

end Cert.KernelIdeal.Merge

end
-- ==== Proof.Final.lean ====
/-
  The kernel's run at extended reals, its six results named: each the merge of the arguments at the anchor.
-/
module

public import proofs.«01_k».proof.Proof.Values

@[expose] public section

set_option maxRecDepth 16384
set_option maxHeartbeats 4000000

noncomputable section

namespace Cert.KernelIdeal.Merge

open Cert.KernelIdeal Cert.KernelIdeal.Gen Cert.Merge
open Idealize.ShloMosaic Idealize.ShloMosaic.TcCoe
open Idealize.SL.Sem
open Idealize.ShloMosaic.Pipeline (Window Dat)

variable (m : (ℓ : Loc nD τ sig) → Buf (Elt Ideal) ℓ) (c : Dev nD)

/-- Each result array ends as the merge of the arguments, lanes last. -/
theorem final :
    (dats m (results m) 0 c).arrAt 7 cfg0.N = (results m c).objectness
    ∧ (dats m (results m) 0 c).arrAt 8 cfg0.N = (results m c).centers
    ∧ (dats m (results m) 0 c).arrAt 9 cfg0.N = (results m c).scales
    ∧ (dats m (results m) 0 c).arrAt 10 cfg0.N = (results m c).weights
    ∧ (dats m (results m) 0 c).arrAt 11 cfg0.N = (results m c).classes
    ∧ (dats m (results m) 0 c).arrAt 12 cfg0.N = (results m c).classMask := by
  refine ⟨?_, ?_, ?_, ?_, ?_, ?_⟩
  · refine (dats m (results m) 0 c).arrAt_eq_of_covers 7 _ (by decide +kernel) fun t _ y => (cast_eq rfl _).trans ?_
    exact win0_7.fill_xinj (grid0.coords t) (fun _ => pad) ((win0_7.blk t).view.read (Elt Ideal) (results m c).objectness) y
  · refine (dats m (results m) 0 c).arrAt_eq_of_covers 8 _ (by decide +kernel) fun t _ y => (cast_eq rfl _).trans ?_
    exact win0_8.fill_xinj (grid0.coords t) (fun _ => pad) ((win0_8.blk t).view.read (Elt Ideal) (results m c).centers) y
  · refine (dats m (results m) 0 c).arrAt_eq_of_covers 9 _ (by decide +kernel) fun t _ y => (cast_eq rfl _).trans ?_
    exact win0_9.fill_xinj (grid0.coords t) (fun _ => pad) ((win0_9.blk t).view.read (Elt Ideal) (results m c).scales) y
  · refine (dats m (results m) 0 c).arrAt_eq_of_covers 10 _ (by decide +kernel) fun t _ y => (cast_eq rfl _).trans ?_
    exact win0_10.fill_xinj (grid0.coords t) (fun _ => pad) ((win0_10.blk t).view.read (Elt Ideal) (results m c).weights) y
  · refine (dats m (results m) 0 c).arrAt_eq_of_covers 11 _ (by decide +kernel) fun t _ y => (cast_eq rfl _).trans ?_
    exact win0_11.fill_xinj (grid0.coords t) (fun _ => pad) ((win0_11.blk t).view.read (Elt Ideal) (results m c).classes) y
  · refine (dats m (results m) 0 c).arrAt_eq_of_covers 12 _ (by decide +kernel) fun t _ y => (cast_eq rfl _).trans ?_
    exact win0_12.fill_xinj (grid0.coords t) (fun _ => pad) ((win0_12.blk t).view.read (Elt Ideal) (results m c).classMask) y

/-- The buffers the operations after the region find: the result arrays as the pipeline leaves them. -/
theorem left (w : Fin 13) :
    Pipeline.withArrays spec0 c (V0 m c) (fun w => (dats m (results m) 0 c).arrAt w cfg0.N) (Proc.devRef .tc (Pipeline.arrRef spec0 w))
      = (dats m (results m) 0 c).arrAt w cfg0.N :=
  Pipeline.withArrays_arr spec0 (by decide) c (V0 m c) _ w

/-- The returned arrays: the results with their last two axes exchanged back. -/
theorem returned :
    Pipeline.afterTail₀ cfgs (dats m (results m)) 0 (V0 m) [hostOps1] c main_v8 = transpose S32x22743x1 [0, 2, 1] (results m c).objectness transposes_S32x1x22743_S32x22743x1_0_2_1
    ∧ Pipeline.afterTail₀ cfgs (dats m (results m)) 0 (V0 m) [hostOps1] c main_v9 = transpose S32x22743x2 [0, 2, 1] (results m c).centers transposes_S32x2x22743_S32x22743x2_0_2_1
    ∧ Pipeline.afterTail₀ cfgs (dats m (results m)) 0 (V0 m) [hostOps1] c main_v10 = transpose S32x22743x2 [0, 2, 1] (results m c).scales transposes_S32x2x22743_S32x22743x2_0_2_1
    ∧ Pipeline.afterTail₀ cfgs (dats m (results m)) 0 (V0 m) [hostOps1] c main_v11 = transpose S32x22743x2 [0, 2, 1] (results m c).weights transposes_S32x2x22743_S32x22743x2_0_2_1
    ∧ Pipeline.afterTail₀ cfgs (dats m (results m)) 0 (V0 m) [hostOps1] c main_v12 = transpose S32x22743x80 [0, 2, 1] (results m c).classes transposes_S32x80x22743_S32x22743x80_0_2_1
    ∧ Pipeline.afterTail₀ cfgs (dats m (results m)) 0 (V0 m) [hostOps1] c main_v13 = transpose S32x22743x80 [0, 2, 1] (results m c).classMask transposes_S32x80x22743_S32x22743x80_0_2_1 := by
  obtain ⟨f0, f1, f2, f3, f4, f5⟩ := final m c
  rw [← f0, ← f1, ← f2, ← f3, ← f4, ← f5, ← left m c 7, ← left m c 8, ← left m c 9, ← left m c 10, ← left m c 11, ← left m c 12]
  unfold Pipeline.afterTail₀
  refine ⟨?_, ?_, ?_, ?_, ?_, ?_⟩ <;>
  · simp only [hostOps1, List.flatten_cons, List.flatten_nil, List.append_nil]
    after_results_simp
    try rfl

end Cert.KernelIdeal.Merge

end
-- ==== Proof.Expected.lean ====
/-
  The reference's objectness in stages, each read at an index: the lengths and areas shared, the areas, the overlaps,
  the largest overlap, the choice. Together they are the reference's own term.
-/
module

public import proofs.«01_k».proof.Proof.Gen.ReferenceIdeal.Run
public import proofs.«01_k».proof.Proof.Scalars

@[expose] public section

set_option maxRecDepth 16384
set_option maxHeartbeats 4000000

noncomputable section

namespace Cert.Merge

open Cert.ReferenceIdeal Cert.ReferenceIdeal.Gen
open Idealize.ShloMosaic Idealize.ShloMosaic.TcCoe

variable (P : FVec Ideal S32x22743x4 .f32) (G : FVec Ideal S32x50x4 .f32) (o : FVec Ideal S32x22743x1 .f32)

/-- The lengths each predicted box shares with each true box, along both axes. -/
def sides : FVec Ideal S32x22743x50x2 .f32 :=
  maximumf (broadcastInDim S32x22743x50x2 ![] bcast_S_S32x22743x50x2 (id (constant S_ .f32 0x00000000#32))) (subf (minimumf (broadcastInDim S32x22743x50x2 ![0, 1, 2, 3] bcast_S32x22743x1x2_S32x22743x50x2_0_1_2_3 (broadcastInDim S32x22743x1x2 ![0, 1, 3] bcast_S32x22743x2_S32x22743x1x2_0_1_3 (extractStridedSlice S32x22743x2 ![0, 0, 2] P slices_S32x22743x4_S32x22743x2_0_0_2))) (broadcastInDim S32x22743x50x2 ![0, 1, 2, 3] bcast_S32x1x50x2_S32x22743x50x2_0_1_2_3 (broadcastInDim S32x1x50x2 ![0, 2, 3] bcast_S32x50x2_S32x1x50x2_0_2_3 (extractStridedSlice S32x50x2 ![0, 0, 2] G slices_S32x50x4_S32x50x2_0_0_2)))) (maximumf (broadcastInDim S32x22743x50x2 ![0, 1, 2, 3] bcast_S32x22743x1x2_S32x22743x50x2_0_1_2_3 (broadcastInDim S32x22743x1x2 ![0, 1, 3] bcast_S32x22743x2_S32x22743x1x2_0_1_3 (extractStridedSlice S32x22743x2 ![0, 0, 0] P slices_S32x22743x4_S32x22743x2_0_0_0))) (broadcastInDim S32x22743x50x2 ![0, 1, 2, 3] bcast_S32x1x50x2_S32x22743x50x2_0_1_2_3 (broadcastInDim S32x1x50x2 ![0, 2, 3] bcast_S32x50x2_S32x1x50x2_0_2_3 (extractStridedSlice S32x50x2 ![0, 0, 0] G slices_S32x50x4_S32x50x2_0_0_0)))))

/-- The area each predicted box shares with each true box. -/
def overlaps : FVec Ideal S32x22743x50 .f32 :=
  mulf (shapeCast _ (extractStridedSlice S32x22743x50x1 ![0, 0, 0, 0] (sides P G) slices_S32x22743x50x2_S32x22743x50x1_0_0_0_0) shapeCasts_S32x22743x50x1_S32x22743x50) (shapeCast _ (extractStridedSlice S32x22743x50x1 ![0, 0, 0, 1] (sides P G) slices_S32x22743x50x2_S32x22743x50x1_0_0_0_1) shapeCasts_S32x22743x50x1_S32x22743x50)

/-- The predicted boxes' areas. -/
def areas : FVec Ideal S32x22743 .f32 :=
  mulf (subf (shapeCast _ (extractStridedSlice S32x22743x1 ![0, 0, 2] P slices_S32x22743x4_S32x22743x1_0_0_2) shapeCasts_S32x22743x1_S32x22743) (shapeCast _ (extractStridedSlice S32x22743x1 ![0, 0, 0] P slices_S32x22743x4_S32x22743x1_0_0_0) shapeCasts_S32x22743x1_S32x22743)) (subf (shapeCast _ (extractStridedSlice S32x22743x1 ![0, 0, 3] P slices_S32x22743x4_S32x22743x1_0_0_3) shapeCasts_S32x22743x1_S32x22743) (shapeCast _ (extractStridedSlice S32x22743x1 ![0, 0, 1] P slices_S32x22743x4_S32x22743x1_0_0_1) shapeCasts_S32x22743x1_S32x22743))

/-- The true boxes' areas. -/
def trueAreas : FVec Ideal S32x50 .f32 :=
  mulf (subf (shapeCast _ (extractStridedSlice S32x50x1 ![0, 0, 2] G slices_S32x50x4_S32x50x1_0_0_2) shapeCasts_S32x50x1_S32x50) (shapeCast _ (extractStridedSlice S32x50x1 ![0, 0, 0] G slices_S32x50x4_S32x50x1_0_0_0) shapeCasts_S32x50x1_S32x50)) (subf (shapeCast _ (extractStridedSlice S32x50x1 ![0, 0, 3] G slices_S32x50x4_S32x50x1_0_0_3) shapeCasts_S32x50x1_S32x50) (shapeCast _ (extractStridedSlice S32x50x1 ![0, 0, 1] G slices_S32x50x4_S32x50x1_0_0_1) shapeCasts_S32x50x1_S32x50))

/-- The shared area over the area covered together, of each predicted box with each true box. -/
def ious : FVec Ideal S32x22743x50 .f32 :=
  Host.divf (overlaps P G) (addf (subf (addf (broadcastInDim S32x22743x50 ![0, 1, 2] bcast_S32x22743x1_S32x22743x50_0_1_2 (broadcastInDim S32x22743x1 ![0, 1] bcast_S32x22743_S32x22743x1_0_1 (areas P))) (broadcastInDim S32x22743x50 ![0, 1, 2] bcast_S32x1x50_S32x22743x50_0_1_2 (broadcastInDim S32x1x50 ![0, 2] bcast_S32x50_S32x1x50_0_2 (trueAreas G)))) (overlaps P G)) (broadcastInDim S32x22743x50 ![] bcast_S_S32x22743x50 (constant S_ .f32 0x2B8CBCCC#32)))

/-- The largest of these over the true boxes. -/
def bests : FVec Ideal S32x22743 .f32 :=
  Host.reduce FloatOps.maximumf (ious P G) (constant S_ .f32 0xFF800000#32) reducesTo_S32x22743x50_S32x22743_d2 h_S_

/-- The merged objectness. -/
def objectnesses : FVec Ideal S32x22743x1 .f32 :=
  select (cmpf .ogt o (broadcastInDim S32x22743x1 ![] bcast_S_S32x22743x1 (constant S_ .f32 0x00000000#32))) o (mulf (uitofp .f32 (cmpf .ogt (broadcastInDim S32x22743x1 ![0, 1] bcast_S32x22743_S32x22743x1_0_1 (bests P G)) (broadcastInDim S32x22743x1 ![] bcast_S_S32x22743x1 (constant S_ .f32 0x3F333333#32)))) (broadcastInDim S32x22743x1 ![] bcast_S_S32x22743x1 (constant S_ .f32 0xBF800000#32)))

/-- A length shared along the first axis. -/
theorem sides_x (b : Fin 32) (n : Fin 22743) (k : Fin 50) :
    sides P G (ix4 b n k (0 : Fin 2)) = shared (P (ix3 b n 0)) (P (ix3 b n 2)) (G (ix3 b k 0)) (G (ix3 b k 2)) := by
  pointwise [sides, id]
  exact max_comm _ _

/-- A length shared along the second axis. -/
theorem sides_y (b : Fin 32) (n : Fin 22743) (k : Fin 50) :
    sides P G (ix4 b n k (1 : Fin 2)) = shared (P (ix3 b n 1)) (P (ix3 b n 3)) (G (ix3 b k 1)) (G (ix3 b k 3)) := by
  pointwise [sides, id]
  exact max_comm _ _

/-- A shared area. -/
theorem overlaps_at (b : Fin 32) (n : Fin 22743) (k : Fin 50) :
    overlaps P G (ix3 b n k) = overlap (fun i => P (ix3 b n i)) (fun i => G (ix3 b k i)) := by
  pointwise [overlaps]
  rw [sides_x, sides_y]
  rfl

/-- A predicted box's area. -/
theorem areas_at (b : Fin 32) (n : Fin 22743) : areas P (ix2 b n) = area fun i => P (ix3 b n i) := by
  pointwise [areas]
  rfl

/-- A true box's area. -/
theorem trueAreas_at (b : Fin 32) (k : Fin 50) : trueAreas G (ix2 b k) = area fun i => G (ix3 b k i) := by
  pointwise [trueAreas]
  rfl

/-- A predicted box's overlap with a true box. -/
theorem ious_at (b : Fin 32) (n : Fin 22743) (k : Fin 50) :
    ious P G (ix3 b n k) = iou (fun i => P (ix3 b n i)) (fun i => G (ix3 b k i)) := by
  pointwise [ious]
  rw [overlaps_at, areas_at, trueAreas_at]
  rfl

/-- A predicted box's largest overlap. -/
theorem bests_at (b : Fin 32) (n : Fin 22743) :
    bests P G (ix2 b n) = best (fun i => P (ix3 b n i)) (fun k i => G (ix3 b k i)) := by
  pointwise [bests]
  simp only [ious_at]
  rfl

/-- A truth word made a number, times a word, is a choice between the word and zero. -/
theorem number_mul {p : Prop} [Decidable p] (x : EReal) :
    (FloatOps.uitofp (F := Ideal) .f32 (BitVec.ofBool (decide p)) : EReal) * x = if p then x else 0 := by
  by_cases h : p <;> simp [h, FloatOps.uitofp]

/-- The choice at an index, of arrays of any shape. -/
theorem chosen_at {s : Shape} (x zero y bar mark : FVec Ideal s .f32) (i : s.Idx) :
    select (cmpf .ogt x zero) x (mulf (uitofp .f32 (cmpf .ogt y bar)) mark) i
      = if zero i < x i then x i else if bar i < y i then mark i else 0 := by
  pointwise
  rw [number_mul]

/-- One number per anchor, spread to the results' shape. -/
theorem spread_at (x : FVec Ideal S32x22743 .f32) (b : Fin 32) (n : Fin 22743) :
    broadcastInDim S32x22743x1 ![0, 1] bcast_S32x22743_S32x22743x1_0_1 x (ix3 b n (0 : Fin 1)) = x (ix2 b n) := by
  pointwise

/-- A word, spread to the results' shape. -/
theorem word_at (x : BitVec 32) (i : S32x22743x1.Idx) :
    broadcastInDim S32x22743x1 ![] bcast_S_S32x22743x1 (constant (F := Ideal) S_ .f32 x) i = Ideal.ofBits .f32 x := by
  pointwise

/-- The word of zero is zero. -/
theorem zero_word : Ideal.ofBits .f32 0x00000000#32 = 0 := by
  have h : constant (F := Ideal) S_ .f32 0x00000000#32 ix0 = 0 := by pointwise
  exact h

/-- A merged objectness. -/
theorem objectnesses_at (b : Fin 32) (n : Fin 22743) :
    objectnesses P G o (ix3 b n (0 : Fin 1))
      = merged (fun i => P (ix3 b n i)) (fun k i => G (ix3 b k i)) (o (ix3 b n (0 : Fin 1))) := by
  unfold objectnesses merged kept ignored
  rw [chosen_at, word_at, word_at, word_at, spread_at, bests_at, zero_word]

/-- The stages are the reference's term. -/
theorem objectnesses_eq (m : (ℓ : Loc nD τ sig) → Buf (Elt Ideal) ℓ) (c : Dev nD) :
    Value.res_main_v61 m c = objectnesses (m ((c.tc : Thread nD τ).loc main_arg0)) (m ((c.tc : Thread nD τ).loc main_arg1))
      (m ((c.tc : Thread nD τ).loc main_arg2)) := by
  unfold Value.res_main_v61 objectnesses bests ious overlaps areas trueAreas sides
  rfl

end Cert.Merge

end
-- ==== Proof.Targets.lean ====
/-
  The reference's targets and class mask as functions of the objectness and the targets given, read at an index.
-/
module

public import proofs.«01_k».proof.Proof.Gen.ReferenceIdeal.Run
public import proofs.«01_k».proof.Proof.Scalars

@[expose] public section

set_option maxRecDepth 16384
set_option maxHeartbeats 4000000

noncomputable section

namespace Cert.Merge

open Cert.ReferenceIdeal Cert.ReferenceIdeal.Gen
open Idealize.ShloMosaic Idealize.ShloMosaic.TcCoe

variable (o : FVec Ideal S32x22743x1 .f32) (x : FVec Ideal S32x22743x2 .f32) (y : FVec Ideal S32x22743x80 .f32)

/-- Where the anchors are assigned. -/
def assigned : IVec S32x22743x1 1 :=
  cmpf .ogt o (broadcastInDim S32x22743x1 ![] bcast_S_S32x22743x1 (constant S_ .f32 0x00000000#32))

/-- Centres, scales or weights, zero where the anchor is not assigned. -/
def pairs : FVec Ideal S32x22743x2 .f32 :=
  select (broadcastInDim S32x22743x2 ![0, 1, 2] bcast_S32x22743x1_S32x22743x2_0_1_2 (assigned o)) x
    (broadcastInDim S32x22743x2 ![] bcast_S_S32x22743x2 (id (constant S_ .f32 0x00000000#32)))

/-- Class targets, `-1` where the anchor is not assigned. -/
def classes : FVec Ideal S32x22743x80 .f32 :=
  select (broadcastInDim S32x22743x80 ![0, 1, 2] bcast_S32x22743x1_S32x22743x80_0_1_2 (assigned o)) y
    (broadcastInDim S32x22743x80 ![] bcast_S_S32x22743x80 (id (constant S_ .f32 0xBF800000#32)))

/-- The class mask: the anchor assigned and the merged class target not negative, as a number. -/
def classMask : FVec Ideal S32x22743x80 .f32 :=
  uitofp .f32 (andi (broadcastInDim S32x22743x80 ![0, 1, 2] bcast_S32x22743x1_S32x22743x80_0_1_2 (assigned o))
    (cmpf .oge (classes o y) (broadcastInDim S32x22743x80 ![] bcast_S_S32x22743x80 (constant S_ .f32 0x00000000#32))))

/-- A centre, scale or weight. -/
theorem pairs_at (b : Fin 32) (n : Fin 22743) (r : Fin 2) :
    pairs o x (ix3 b n r) = kept (o (ix3 b n (0 : Fin 1))) (x (ix3 b n r)) 0 := by
  pointwise [pairs, assigned, id]
  rfl

/-- A class target. -/
theorem classTargets_at (b : Fin 32) (n : Fin 22743) (k : Fin 80) :
    classes o y (ix3 b n k) = kept (o (ix3 b n (0 : Fin 1))) (y (ix3 b n k)) ignored := by
  pointwise [classes, assigned, id]
  rfl

/-- Two truth words' conjunction as a number, the second read under the first. -/
theorem number_and {p : Prop} [Decidable p] (u v : EReal) :
    (FloatOps.uitofp (F := Ideal) .f32 (IntOp.andi (BitVec.ofBool (decide p)) (BitVec.ofBool (decide (0 ≤ if p then u else v)))) : EReal)
      = if p ∧ 0 ≤ u then 1 else 0 := by
  by_cases hp : p <;> by_cases hu : 0 ≤ u <;> simp [hp, hu, FloatOps.uitofp, IntOp.andi]

/-- A word of the class mask. -/
theorem classMaskNumber_at (b : Fin 32) (n : Fin 22743) (k : Fin 80) :
    classMask o y (ix3 b n k) = counted (o (ix3 b n (0 : Fin 1))) (y (ix3 b n k)) := by
  pointwise [classMask, assigned]
  rw [classTargets_at]
  exact number_and _ _

end Cert.Merge

end
-- ==== Proof.Algebraic.lean ====
/-
  The kernel and the reference at extended reals: from memories that agree on the arguments, all six results are the
  same arrays.
-/
module

public import proofs.«01_k».proof.Defs
public import proofs.«01_k».proof.Proof.Final
public import proofs.«01_k».proof.Proof.Expected
public import proofs.«01_k».proof.Proof.Targets
public import Idealize.ShloMosaic.Lib.Quiescent

@[expose] public section

set_option maxRecDepth 16384
set_option maxHeartbeats 4000000

noncomputable section

namespace Cert.Merge

open Idealize.ShloMosaic Idealize.ShloMosaic.TcCoe Idealize.SL.Sem

attribute [local instance] Cert.KernelIdeal.Gen.facts Cert.ReferenceIdeal.Gen.facts

section
open Cert.KernelIdeal Cert.KernelIdeal.Gen Cert.KernelIdeal.Merge

variable (m : (ℓ : Loc nD τ sig) → Buf (Elt Ideal) ℓ) (c : Dev nD)

/-! The six results as returned, anchors before rows. -/

/-- The objectness returned. -/
def out0 : FVec Ideal S32x22743x1 .f32 := transpose S32x22743x1 [0, 2, 1] (results m c).objectness transposes_S32x1x22743_S32x22743x1_0_2_1
/-- The centres returned. -/
def out1 : FVec Ideal S32x22743x2 .f32 := transpose S32x22743x2 [0, 2, 1] (results m c).centers transposes_S32x2x22743_S32x22743x2_0_2_1
/-- The scales returned. -/
def out2 : FVec Ideal S32x22743x2 .f32 := transpose S32x22743x2 [0, 2, 1] (results m c).scales transposes_S32x2x22743_S32x22743x2_0_2_1
/-- The weights returned. -/
def out3 : FVec Ideal S32x22743x2 .f32 := transpose S32x22743x2 [0, 2, 1] (results m c).weights transposes_S32x2x22743_S32x22743x2_0_2_1
/-- The class targets returned. -/
def out4 : FVec Ideal S32x22743x80 .f32 := transpose S32x22743x80 [0, 2, 1] (results m c).classes transposes_S32x80x22743_S32x22743x80_0_2_1
/-- The class mask returned. -/
def out5 : FVec Ideal S32x22743x80 .f32 := transpose S32x22743x80 [0, 2, 1] (results m c).classMask transposes_S32x80x22743_S32x22743x80_0_2_1

/-- The kernel's run: the results as named, the arguments unchanged. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = out0 m c
      ∧ r.2.mem ((c.tc : Thread nD τ).loc main_v9) = out1 m c
      ∧ r.2.mem ((c.tc : Thread nD τ).loc main_v10) = out2 m c
      ∧ r.2.mem ((c.tc : Thread nD τ).loc main_v11) = out3 m c
      ∧ r.2.mem ((c.tc : Thread nD τ).loc main_v12) = out4 m c
      ∧ r.2.mem ((c.tc : Thread nD τ).loc main_v13) = out5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨e0, e1, e2, e3, e4, e5⟩ := returned m c
    have rest := fun b hb hb' => (h c).2 b (Pipeline.mem_restRefs_of b hb hb')
    exact ⟨(rest main_v8 (by decide) (by decide)).trans e0, (rest main_v9 (by decide) (by decide)).trans e1,
      (rest main_v10 (by decide) (by decide)).trans e2, (rest main_v11 (by decide) (by decide)).trans e3,
      (rest main_v12 (by decide) (by decide)).trans e4, (rest main_v13 (by decide) (by decide)).trans e5,
      (rest main_arg0 (by decide) (by decide)).trans (W_main_arg0 m _ c), (rest main_arg1 (by decide) (by decide)).trans (W_main_arg1 m _ c),
      (rest main_arg2 (by decide) (by decide)).trans (W_main_arg2 m _ c), (rest main_arg3 (by decide) (by decide)).trans (W_main_arg3 m _ c),
      (rest main_arg4 (by decide) (by decide)).trans (W_main_arg4 m _ c), (rest main_arg5 (by decide) (by decide)).trans (W_main_arg5 m _ c),
      (rest main_arg6 (by decide) (by decide)).trans (W_main_arg6 m _ c)⟩)
    (run_named m (results m) ρ fun c t => agrees m c t)

/-! The reference's terms over the kernel's arguments are the results returned. -/

/-- The objectness. -/
theorem same_objectness : objectnesses (m ((c.tc : Thread nD τ).loc main_arg0)) (m ((c.tc : Thread nD τ).loc main_arg1))
    (m ((c.tc : Thread nD τ).loc main_arg2)) = out0 m c := by
  funext j
  obtain ⟨b, n, k, rfl⟩ : ∃ (b : Fin 32) (n : Fin 22743) (k : Fin 1), j = ix3 b n k := ⟨j 0, j 1, j 2, eq_ix3 j⟩
  obtain rfl := Subsingleton.elim k 0
  rw [objectnesses_at]
  pointwise [out0]
  rfl

/-- The centres. -/
theorem same_centers : pairs (m ((c.tc : Thread nD τ).loc main_arg2)) (m ((c.tc : Thread nD τ).loc main_arg3)) = out1 m c := by
  funext j
  obtain ⟨b, n, k, rfl⟩ : ∃ (b : Fin 32) (n : Fin 22743) (k : Fin 2), j = ix3 b n k := ⟨j 0, j 1, j 2, eq_ix3 j⟩
  rw [pairs_at]
  pointwise [out1]
  rfl

/-- The scales. -/
theorem same_scales : pairs (m ((c.tc : Thread nD τ).loc main_arg2)) (m ((c.tc : Thread nD τ).loc main_arg4)) = out2 m c := by
  funext j
  obtain ⟨b, n, k, rfl⟩ : ∃ (b : Fin 32) (n : Fin 22743) (k : Fin 2), j = ix3 b n k := ⟨j 0, j 1, j 2, eq_ix3 j⟩
  rw [pairs_at]
  pointwise [out2]
  rfl

/-- The weights. -/
theorem same_weights : pairs (m ((c.tc : Thread nD τ).loc main_arg2)) (m ((c.tc : Thread nD τ).loc main_arg5)) = out3 m c := by
  funext j
  obtain ⟨b, n, k, rfl⟩ : ∃ (b : Fin 32) (n : Fin 22743) (k : Fin 2), j = ix3 b n k := ⟨j 0, j 1, j 2, eq_ix3 j⟩
  rw [pairs_at]
  pointwise [out3]
  rfl

/-- The class targets. -/
theorem same_classes : classes (m ((c.tc : Thread nD τ).loc main_arg2)) (m ((c.tc : Thread nD τ).loc main_arg6)) = out4 m c := by
  funext j
  obtain ⟨b, n, k, rfl⟩ : ∃ (b : Fin 32) (n : Fin 22743) (k : Fin 80), j = ix3 b n k := ⟨j 0, j 1, j 2, eq_ix3 j⟩
  rw [classTargets_at]
  pointwise [out4]
  rfl

/-- The class mask. -/
theorem same_classMask : classMask (m ((c.tc : Thread nD τ).loc main_arg2)) (m ((c.tc : Thread nD τ).loc main_arg6)) = out5 m c := by
  funext j
  obtain ⟨b, n, k, rfl⟩ : ∃ (b : Fin 32) (n : Fin 22743) (k : Fin 80), j = ix3 b n k := ⟨j 0, j 1, j 2, eq_ix3 j⟩
  rw [classMaskNumber_at]
  pointwise [out5]
  rfl

end

/-- The value claim. -/
theorem algebraic : Cert.algebraic_KernelIdeal_ReferenceIdeal := fun m g m' g' _ hagree =>
  ⟨out0 m, out1 m, out2 m, out3 m, out4 m, out5 m, run_results m g,
    (θ_run Cert.ReferenceIdeal.defs _ _).mono (fun _ h c => by
      obtain ⟨a0, a1, a2, a3, a4, a5, a6⟩ := hagree c
      obtain ⟨h0, h1, h2, h3, h4, h5, rest⟩ := h c
      rw [objectnesses_eq, a0, a1, a2] at h0
      rw [a2, a3] at h1
      rw [a2, a4] at h2
      rw [a2, a5] at h3
      rw [a2, a6] at h4 h5
      exact ⟨h0.trans (same_objectness m c), h1.trans (same_centers m c), h2.trans (same_scales m c),
        h3.trans (same_weights m c), h4.trans (same_classes m c), h5.trans (same_classMask m c), rest⟩)
      (Cert.ReferenceIdeal.Value.run m' g')⟩

/-- The reference runs, its arguments end unchanged, and every counter ends at zero: it has none. -/
theorem frame_ReferenceIdeal : Cert.quiescent_ReferenceIdeal := fun m g _ =>
  (θ_run Cert.ReferenceIdeal.defs _ _).mono (fun r h =>
    ⟨fun c => (h c).2.2.2.2.2.2, sem_eq_zero_of_no_sems (by decide) _⟩) (Cert.ReferenceIdeal.Value.run m g)

end Cert.Merge

end
-- ==== Proof.lean ====
/-
  The certificate: the frames of the kernel, its idealization and the reference, that the idealization is the
  kernel's own text, and that kernel and reference return the same six arrays at extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Transfer
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the three frames, the idealization, and the six results equal. -/
theorem claim : Cert.Claim := ⟨Cert.Kernel.Gen.facts, Cert.KernelIdeal.Gen.facts, Cert.ReferenceIdeal.Gen.facts,
  Cert.Transfer.frame_Kernel, Cert.Transfer.frame_KernelIdeal, Cert.Merge.frame_ReferenceIdeal, trivial, Cert.Merge.algebraic⟩

end Cert.Proof

end
